-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_params_finite [hPre_params_finite : Cert.Pre_params_finite.Facts] (m : (ℓ : Loc Cert.KernelIdeal.nD Cert.KernelIdeal.τ Cert.KernelIdeal.sig) → Buf (Elt Ideal) ℓ) : Prop :=
  ∀ c : Dev Cert.KernelIdeal.nD,
    (Cert.Pre_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_params_finite [hPre_params_finite : Cert.Pre_params_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_params_finite [hKernelIdeal : Cert.KernelIdeal.Facts] [hPre_params_finite : Cert.Pre_params_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_params_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_params_finite [hReferenceIdeal : Cert.ReferenceIdeal.Facts] [hPre_params_finite : Cert.Pre_params_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_params_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_params_finite [hKernelIdeal : Cert.KernelIdeal.Facts] [hReferenceIdeal : Cert.ReferenceIdeal.Facts] [hPre_params_finite : Cert.Pre_params_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_params_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_params_finite : Cert.Pre_params_finite.Facts),
    quiescent_Kernel (hKernel := hKernel)
    ∧ quiescent_KernelIdeal (hKernelIdeal := hKernelIdeal)
    ∧ quiescent_KernelIdeal_pre_params_finite (hKernelIdeal := hKernelIdeal) (hPre_params_finite := hPre_params_finite)
    ∧ quiescent_ReferenceIdeal (hReferenceIdeal := hReferenceIdeal)
    ∧ quiescent_ReferenceIdeal_pre_params_finite (hReferenceIdeal := hReferenceIdeal) (hPre_params_finite := hPre_params_finite)
    ∧ preserves_Kernel_KernelIdeal
    ∧ algebraic_KernelIdeal_ReferenceIdeal_pre_params_finite (hKernelIdeal := hKernelIdeal) (hReferenceIdeal := hReferenceIdeal) (hPre_params_finite := hPre_params_finite)
-- ==== Pre_params_finite.lean ====
abbrev S4x8192x1024 : Shape := ⟨3, ![4, 8192, 1024]⟩
abbrev S4x8192 : Shape := ⟨2, ![4, 8192]⟩
abbrev S5x1024 : Shape := ⟨2, ![5, 1024]⟩
abbrev S5 : Shape := ⟨1, ![5]⟩
abbrev S1024x1024 : Shape := ⟨2, ![1024, 1024]⟩
abbrev S1024 : Shape := ⟨1, ![1024]⟩
abbrev S_ : Shape := ⟨0, ![]⟩

class Facts : Prop where
  bcast_S_S4x8192 : S_.BroadcastsInDim S4x8192 (![] : Fin 0 → Fin S4x8192.rank)
  bcast_S_S5x1024 : S_.BroadcastsInDim S5x1024 (![] : Fin 0 → Fin S5x1024.rank)
  bcast_S_S5 : S_.BroadcastsInDim S5 (![] : Fin 0 → Fin S5.rank)

variable [Facts]

def fn {F : FTy → Type} [FloatOps F] (main_arg0 : FVec F S4x8192x1024 .f32) (main_arg1 : IVec S4x8192 32) (main_arg2 : FVec F S5x1024 .f32) (main_arg3 : FVec F S5x1024 .f32) (main_arg4 : FVec F S5 .f32) (main_arg5 : FVec F S1024x1024 .f32) (main_arg6 : FVec F S1024 .f32) : IVec S4x8192 1 × IVec S5x1024 1 × IVec S5x1024 1 × IVec S5 1 :=
  let main_c : IVec S_ 32 := constantI S_ 32 0#32
  let main_v0 : IVec S4x8192 32 := broadcastInDim S4x8192 ![] bcast_S_S4x8192 main_c
  let main_v1 : IVec S4x8192 1 := cmpi .sge main_arg1 main_v0
  let main_c_0 : IVec S_ 32 := constantI S_ 32 5#32
  let main_v2 : IVec S4x8192 32 := broadcastInDim S4x8192 ![] bcast_S_S4x8192 main_c_0
  let main_v3 : IVec S4x8192 1 := cmpi .slt main_arg1 main_v2
  let main_v4 : IVec S4x8192 1 := andi main_v1 main_v3
  let main_v5 : FVec F S5x1024 .f32 := Host.absf main_arg2
  let main_cst : FVec F S_ .f32 := constant S_ .f32 0x7F800000#32
  let main_v6 : FVec F S5x1024 .f32 := broadcastInDim S5x1024 ![] bcast_S_S5x1024 main_cst
  let main_v7 : IVec S5x1024 1 := cmpf .olt main_v5 main_v6
  let main_v8 : FVec F S5x1024 .f32 := Host.absf main_arg3
  let main_cst_1 : FVec F S_ .f32 := constant S_ .f32 0x7F800000#32
  let main_v9 : FVec F S5x1024 .f32 := broadcastInDim S5x1024 ![] bcast_S_S5x1024 main_cst_1
  let main_v10 : IVec S5x1024 1 := cmpf .olt main_v8 main_v9
  let main_v11 : FVec F S5 .f32 := Host.absf main_arg4
  let main_cst_2 : FVec F S_ .f32 := constant S_ .f32 0x7F800000#32
  let main_v12 : FVec F S5 .f32 := broadcastInDim S5 ![] bcast_S_S5 main_cst_2
  let main_v13 : IVec S5 1 := cmpf .olt main_v11 main_v12
  (main_v4, main_v7, main_v10, main_v13)
-- ==== Kernel.lean ====
abbrev S4x8192x1024 : Shape := ⟨3, ![4, 8192, 1024]⟩
abbrev S4x8192 : Shape := ⟨2, ![4, 8192]⟩
abbrev S5x1024 : Shape := ⟨2, ![5, 1024]⟩
abbrev S5 : Shape := ⟨1, ![5]⟩
abbrev S1024x1024 : Shape := ⟨2, ![1024, 1024]⟩
abbrev S1024 : Shape := ⟨1, ![1024]⟩
abbrev S32768x1024 : Shape := ⟨2, ![32768, 1024]⟩
abbrev S32x1x1024 : Shape := ⟨3, ![32, 1, 1024]⟩
abbrev S5x1 : Shape := ⟨2, ![5, 1]⟩
abbrev S5x2048 : Shape := ⟨2, ![5, 2048]⟩
abbrev S_ : Shape := ⟨0, ![]⟩
abbrev S8x2048 : Shape := ⟨2, ![8, 2048]⟩
abbrev S1x1024 : Shape := ⟨2, ![1, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S8x256 : Shape := ⟨2, ![8, 256]⟩
abbrev S256x2048 : Shape := ⟨2, ![256, 2048]⟩

abbrev nBuf : Space → Nat
  | .hbm => 32
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S5x1024, .f32⟩
  | .hbm, ⟨3, _⟩ => ⟨S5x1024, .f32⟩
  | .hbm, ⟨4, _⟩ => ⟨S5, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S32x1x1024, .i32⟩
  | .hbm, ⟨9, _⟩ => ⟨S5x1, .f32⟩
  | .hbm, ⟨10, _⟩ => ⟨S5x1024, .f32⟩
  | .hbm, ⟨11, _⟩ => ⟨S5x1024, .f32⟩
  | .hbm, ⟨12, _⟩ => ⟨S5x1, .f32⟩
  | .hbm, ⟨13, _⟩ => ⟨S5x1024, .f32⟩
  | .hbm, ⟨14, _⟩ => ⟨S5x1024, .f32⟩
  | .hbm, ⟨15, _⟩ => ⟨S5x2048, .f32⟩
  | .hbm, ⟨16, _⟩ => ⟨S_, .i32⟩
  | .hbm, ⟨17, _⟩ => ⟨S_, .f32⟩
  | .hbm, ⟨18, _⟩ => ⟨S8x2048, .f32⟩
  | .hbm, ⟨19, _⟩ => ⟨S8x2048, .bf16⟩
  | .hbm, ⟨20, _⟩ => ⟨S1x1024, .f32⟩
  | .hbm, ⟨21, _⟩ => ⟨S1024x1024, .i32⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i32⟩
  | .hbm, ⟨26, _⟩ => ⟨S1024x1024, .i1⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S32768x1024, .f32⟩
  | .hbm, ⟨31, _⟩ => ⟨S4x8192x1024, .f32⟩
  | .local _ .vmem, ⟨0, _⟩ => ⟨S1x1x1024, .i32⟩
  | .local _ .vmem, ⟨1, _⟩ => ⟨S1x1x1024, .i32⟩
  | .local _ .vmem, ⟨2, _⟩ => ⟨S1024x1024, .f32⟩
  | .local _ .vmem, ⟨3, _⟩ => ⟨S1024x1024, .f32⟩
  | .local _ .vmem, ⟨4, _⟩ => ⟨S8x2048, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x1024 : Shape := ⟨3, ![4, 8192, 1024]⟩
abbrev S4x8192 : Shape := ⟨2, ![4, 8192]⟩
abbrev S5x1024 : Shape := ⟨2, ![5, 1024]⟩
abbrev S5 : Shape := ⟨1, ![5]⟩
abbrev S1024x1024 : Shape := ⟨2, ![1024, 1024]⟩
abbrev S1024 : Shape := ⟨1, ![1024]⟩
abbrev S_ : Shape := ⟨0, ![]⟩
abbrev S4x8192x1 : Shape := ⟨3, ![4, 8192, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S5x1024, .f32⟩
  | .hbm, ⟨3, _⟩ => ⟨S5x1024, .f32⟩
  | .hbm, ⟨4, _⟩ => ⟨S5, .f32⟩
  | .hbm, ⟨5, _⟩ => ⟨S1024x1024, .f32⟩
  | .hbm, ⟨6, _⟩ => ⟨S1024, .f32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x8192, .i32⟩
  | .hbm, ⟨14, _⟩ => ⟨S4x8192, .i32⟩
  | .hbm, ⟨15, _⟩ => ⟨S_, .i32⟩
  | .hbm, ⟨16, _⟩ => ⟨S4x8192, .i32⟩
  | .hbm, ⟨17, _⟩ => ⟨S4x8192, .i32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S_, .i32⟩
  | .hbm, ⟨42, _⟩ => ⟨S4x8192, .i32⟩
  | .hbm, ⟨43, _⟩ => ⟨S4x8192, .i1⟩
  | .hbm, ⟨44, _⟩ => ⟨S_, .i32⟩
  | .hbm, ⟨45, _⟩ => ⟨S4x8192, .i32⟩
  | .hbm, ⟨46, _⟩ => ⟨S4x8192, .i32⟩
  | .hbm, ⟨47, _⟩ => ⟨S4x8192, .i32⟩
  | .hbm, ⟨48, _⟩ => ⟨S4x8192x1, .i32⟩
  | .hbm, ⟨49, _⟩ => ⟨S4x8192x1024, .f32⟩
  | .hbm, ⟨50, _⟩ => ⟨S_, .i32⟩
  | .hbm, ⟨51, _⟩ => ⟨S4x8192, .i32⟩
  | .hbm, ⟨52, _⟩ => ⟨S4x8192, .i1⟩
  | .hbm, ⟨53, _⟩ => ⟨S_, .i32⟩
  | .hbm, ⟨54, _⟩ => ⟨S4x8192, .i32⟩
  | .hbm, ⟨55, _⟩ => ⟨S4x8192, .i32⟩
  | .hbm, ⟨56, _⟩ => ⟨S4x8192, .i32⟩
  | .hbm, ⟨57, _⟩ => ⟨S4x8192x1, .i32⟩
  | .hbm, ⟨58, _⟩ => ⟨S4x8192x1024, .f32⟩
  | .hbm, ⟨59, _⟩ => ⟨S_, .i32⟩
  | .hbm, ⟨60, _⟩ => ⟨S4x8192, .i32⟩
  | .hbm, ⟨61, _⟩ => ⟨S4x8192, .i1⟩
  | .hbm, ⟨62, _⟩ => ⟨S_, .i32⟩
  | .hbm, ⟨63, _⟩ => ⟨S4x8192, .i32⟩
  | .hbm, ⟨64, _⟩ => ⟨S4x8192, .i32⟩
  | .hbm, ⟨65, _⟩ => ⟨S4x8192, .i32⟩
  | .hbm, ⟨66, _⟩ => ⟨S4x8192x1, .i32⟩
  | .hbm, ⟨67, _⟩ => ⟨S4x8192, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1, .i1⟩
  | .hbm, ⟨74, _⟩ => ⟨S4x8192x1024, .i1⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== Proof.Norm.lean ====
/-
  Normalising one row of extended reals: subtract the mean, divide by the root of the variance plus a small constant.
  Whatever the row holds, infinities included, every entry of the normalised row is a real number.
-/
module

public import Idealize.ShloMosaic.PureOps.Ideal
public import Idealize.ShloMosaic.PureOps.Ideal.Laws

@[expose] public section

noncomputable section

open Idealize.ShloMosaic
open scoped BigOperators

namespace Cert.Film

/-- The row length, as both programs spell it. -/
abbrev len : EReal := Ideal.ofBits .f32 0x44800000#32

/-- The constant added to the variance, as both programs spell it. -/
abbrev eps : EReal := Ideal.ofBits .f32 0x3727C5AC#32

/-- The row length is the real number 1024. -/
theorem len_eq : len = ((1024 : ℝ) : EReal) := by
  simp [len, Ideal.ofBits, Ideal.ieee, -EReal.coe_mul]; norm_num

/-- The constant added to the variance is a positive real number. -/
theorem eps_eq : ∃ e : ℝ, 0 < e ∧ eps = (e : EReal) := by
  refine ⟨_, ?_, by simp [eps, Ideal.ofBits, Ideal.ieee, -EReal.coe_mul]; rfl⟩
  positivity

/-- The bit pattern of infinity is the top extended real. -/
theorem inf_eq : Ideal.ofBits .f32 0x7F800000#32 = ⊤ := by
  simp [Ideal.ofBits, Ideal.ieee]

/-- An entry's distance from the row's mean. -/
def dev (x : Fin 1024 → EReal) (k : Fin 1024) : EReal := x k - Ideal.div (∑ j, x j) len

/-- The normalised entry. -/
def unit (x : Fin 1024 → EReal) (k : Fin 1024) : EReal :=
  dev x k * Ideal.rsqrt (Ideal.div (∑ j, dev x j * dev x j) len + eps)

/-- Dividing by the row length is multiplying by its real reciprocal. -/
theorem div_len (y : EReal) : Ideal.div y len = y * ((1 / 1024 : ℝ) : EReal) := by
  rw [len_eq]; exact Ideal.div_coe (by norm_num) y

/-- A finite sum of real numbers is the same sum taken in the extended reals. -/
theorem coe_sum {n : ℕ} (f : Fin n → ℝ) : ((∑ k, f k : ℝ) : EReal) = ∑ k, (f k : EReal) := by
  classical
  induction (Finset.univ : Finset (Fin n)) using Finset.induction_on with
  | empty => simp
  | insert a s ha ih => rw [Finset.sum_insert ha, Finset.sum_insert ha, EReal.coe_add, ih]

/-- A sum with a bottom term is bottom. -/
theorem sum_bot {n : ℕ} (f : Fin n → EReal) (k : Fin n) (h : f k = ⊥) : ∑ j, f j = ⊥ := by
  rw [← Finset.add_sum_erase _ _ (Finset.mem_univ k), h, EReal.bot_add]

/-- A sum with no bottom term and a top term is top. -/
theorem sum_top {n : ℕ} (f : Fin n → EReal) (k : Fin n) (h : f k = ⊤) (hb : ∀ j, f j ≠ ⊥) : ∑ j, f j = ⊤ := by
  classical
  have hs : ∀ s : Finset (Fin n), ∑ j ∈ s, f j ≠ ⊥ := fun s => by
    induction s using Finset.induction_on with
    | empty => simp
    | insert a s ha ih => rw [Finset.sum_insert ha]; simp [EReal.add_eq_bot_iff, hb a, ih]
  rw [← Finset.add_sum_erase _ _ (Finset.mem_univ k), h, EReal.top_add_of_ne_bot (hs _)]

/-- Where every distance from the mean is infinite the variance is infinite and the normalised entries are zero. -/
theorem unit_of_infinite (x : Fin 1024 → EReal) (h : ∀ j, dev x j = ⊥ ∨ dev x j = ⊤) (k : Fin 1024) : unit x k = 0 := by
  have hsq : ∀ j, dev x j * dev x j = ⊤ := fun j => by
    rcases h j with e | e <;> rw [e] <;> rfl
  obtain ⟨e, -, he⟩ := eps_eq
  have hpos : (⊤ : EReal) * ((1 / 1024 : ℝ) : EReal) = ⊤ := EReal.top_mul_coe_of_pos (by norm_num)
  unfold unit
  rw [sum_top _ k (hsq k) (fun j => by rw [hsq j]; exact top_ne_bot), div_len, hpos, he, EReal.top_add_coe]
  exact mul_zero _

/-- Every entry of the normalised row is a real number. -/
theorem unit_real (x : Fin 1024 → EReal) (k : Fin 1024) : ∃ r : ℝ, unit x k = (r : EReal) := by
  by_cases hb : ∃ j, x j = ⊥
  · obtain ⟨j, hj⟩ := hb
    refine ⟨0, unit_of_infinite x (fun i => ?_) k⟩
    unfold dev
    rw [div_len, sum_bot _ j hj, EReal.bot_mul_coe_of_pos (by norm_num)]
    induction x i <;> simp [sub_eq_add_neg]
  by_cases ht : ∃ j, x j = ⊤
  · obtain ⟨j, hj⟩ := ht
    refine ⟨0, unit_of_infinite x (fun i => Or.inl ?_) k⟩
    unfold dev
    rw [div_len, sum_top _ j hj (fun i hi => hb ⟨i, hi⟩), EReal.top_mul_coe_of_pos (by norm_num)]
    exact EReal.sub_top _
  have hx : ∀ j, x j = ((x j).toReal : EReal) := fun j =>
    (EReal.coe_toReal (fun h => ht ⟨j, h⟩) (fun h => hb ⟨j, h⟩)).symm
  have hd : ∀ j, dev x j = (((x j).toReal - (∑ i, (x i).toReal) * (1 / 1024) : ℝ) : EReal) := fun j => by
    unfold dev
    rw [div_len, Finset.sum_congr rfl fun i _ => hx i, ← coe_sum, ← EReal.coe_mul]
    conv_lhs => rw [hx j]
    rw [← EReal.coe_sub]
  obtain ⟨e, hpos, he⟩ := eps_eq
  unfold unit
  rw [div_len, Finset.sum_congr rfl fun i _ => by rw [hd i, ← EReal.coe_mul], ← coe_sum, ← EReal.coe_mul, he,
    ← EReal.coe_add, hd k]
  set v : ℝ := _ * (1 / 1024) + e with hv
  have hvpos : 0 < v := by
    refine add_pos_of_nonneg_of_pos (mul_nonneg (Finset.sum_nonneg fun i _ => mul_self_nonneg _) (by norm_num)) hpos
  have hr : Ideal.rsqrt (v : EReal) = (((Real.sqrt v)⁻¹ : ℝ) : EReal) := by
    show (if v < 0 then (⊥ : EReal) else if v = 0 then ⊤ else _) = _
    rw [if_neg hvpos.not_gt, if_neg hvpos.ne']
  rw [hr, ← EReal.coe_mul]
  exact ⟨_, rfl⟩

end Cert.Film

end
-- ==== Proof.Pre.lean ====
/-
  What the precondition says of the arguments: every id is the word of one of the five table rows, and every entry of
  the weight, shift and scale tables is a real number.
-/
module

public import proofs.«01_k».proof.Pre_params_finite
public import proofs.«01_k».proof.Proof.Norm

@[expose] public section

noncomputable section

open Idealize.ShloMosaic

namespace Cert.Film

open Cert.Pre_params_finite

/-- The facts the precondition's operations take. -/
theorem pre_facts : Facts := ⟨by decide, by decide, by decide⟩

/-- An extended real whose absolute value is below infinity is a real number. -/
theorem real_of_abs_lt (a : EReal)
    (h : FloatOps.cmpf (F := Ideal) (φ := .f32) .olt (FloatOps.absf (F := Ideal) (φ := .f32) a)
      (Ideal.ofBits .f32 0x7F800000#32) = 1#1) :
    ∃ r : ℝ, a = (r : EReal) := by
  rw [inf_eq, Ideal.absf_def, Ideal.cmpf_def] at h
  have hlt : max a (-a) < ⊤ := by
    by_contra hn
    have : Ideal.cmp .olt (max a (-a)) ⊤ = 0#1 := by simp only [Ideal.cmp, hn, decide_false]; rfl
    rw [this] at h
    exact absurd h (by decide)
  obtain ⟨h1, h2⟩ := max_lt_iff.1 hlt
  refine ⟨a.toReal, (EReal.coe_toReal h1.ne ?_).symm⟩
  rintro rfl
  simp at h2

/-- A word that is at least zero and below five, as signed numbers, is the word of a number below five. -/
theorem id_of_bounds (w : BitVec 32) (h : IntOp.andi (IntOp.cmpi .sge w 0#32) (IntOp.cmpi .slt w 5#32) = 1#1) :
    ∃ j : Fin 5, w = BitVec.ofNat 32 j := by
  have hc : (0#32).sle w = true ∧ w.slt 5#32 = true := by
    have e : IntOp.andi (IntOp.cmpi .sge w 0#32) (IntOp.cmpi .slt w 5#32)
      = BitVec.ofBool ((0#32).sle w) &&& BitVec.ofBool (w.slt 5#32) := rfl
    rw [e] at h
    cases h1 : (0#32).sle w <;> cases h2 : w.slt 5#32 <;> simp [h1, h2] at h ⊢
  have h1 : 0 ≤ w.toInt := by simpa [BitVec.sle] using hc.1
  have h2 : w.toInt < 5 := by simpa [BitVec.slt] using hc.2
  have hw : w.toNat < 5 := by
    rw [BitVec.toInt_eq_toNat_cond] at h1 h2
    split at h1 <;> omega
  exact ⟨⟨w.toNat, hw⟩, BitVec.eq_of_toNat_eq (by simp)⟩

section

variable (x : FVec Ideal S4x8192x1024 .f32) (ids : IVec S4x8192 32)
  (γ β : FVec Ideal S5x1024 .f32) (σ : FVec Ideal S5 .f32)
  (W : FVec Ideal S1024x1024 .f32) (bias : FVec Ideal S1024 .f32)

/-- Where the first result of the precondition is all ones, every id is the word of a row number. -/
theorem ids_of_pre [Facts]
    (h : (fn (F := Ideal) x ids γ β σ W bias).1 = fun _ => 1#1) (i : S4x8192.Idx) :
    ∃ j : Fin 5, ids i = BitVec.ofNat 32 j :=
  id_of_bounds (ids i) (congrFun h i)

/-- Where the second is all ones, every weight is a real number. -/
theorem gamma_of_pre [Facts]
    (h : (fn (F := Ideal) x ids γ β σ W bias).2.1 = fun _ => 1#1) (i : S5x1024.Idx) :
    ∃ r : ℝ, γ i = (r : EReal) :=
  real_of_abs_lt (γ i) (congrFun h i)

/-- Where the third is all ones, every shift is a real number. -/
theorem beta_of_pre [Facts]
    (h : (fn (F := Ideal) x ids γ β σ W bias).2.2.1 = fun _ => 1#1) (i : S5x1024.Idx) :
    ∃ r : ℝ, β i = (r : EReal) :=
  real_of_abs_lt (β i) (congrFun h i)

/-- Where the fourth is all ones, every scale is a real number. -/
theorem scale_of_pre [Facts]
    (h : (fn (F := Ideal) x ids γ β σ W bias).2.2.2 = fun _ => 1#1) (i : S5.Idx) :
    ∃ r : ℝ, σ i = (r : EReal) :=
  real_of_abs_lt (σ i) (congrFun h i)

end

end Cert.Film

end
-- ==== Proof.Algebra.lean ====
/-
  The row identity: the kernel's product with the weights plus the identity, of a row scaled by pre-multiplied
  coefficients, is the reference's residual plus product, of the row scaled afterwards.
-/
module

public import Idealize.ShloMosaic.PureOps.Ideal

@[expose] public section

noncomputable section

open scoped BigOperators

namespace Cert.Film

/-- A real number times an extended real plus zero or one distributes. -/
theorem mul_add_bit (y : ℝ) (w : EReal) (p : Prop) [Decidable p] :
    (y : EReal) * (w + if p then 1 else 0) = (y : EReal) * w + if p then (y : EReal) else 0 := by
  split
  · induction w with
    | bot =>
      rw [EReal.bot_add]
      rcases lt_trichotomy y 0 with h | h | h
      · rw [EReal.coe_mul_bot_of_neg h, EReal.top_add_coe]
      · subst h; simp
      · rw [EReal.coe_mul_bot_of_pos h, EReal.bot_add]
    | coe w => norm_cast; ring
    | top =>
      rw [EReal.top_add_of_ne_bot (by decide)]
      rcases lt_trichotomy y 0 with h | h | h
      · rw [EReal.coe_mul_top_of_neg h, EReal.bot_add]
      · subst h; simp
      · rw [EReal.coe_mul_top_of_pos h, EReal.top_add_coe]
  · rw [add_zero, add_zero]

/-- The product of a row of real numbers with weights plus the identity is its entry plus its product with the weights. -/
theorem sum_mul_add_eye {n : ℕ} (y : Fin n → ℝ) (w : Fin n → EReal) (e : Fin n) :
    ∑ d, (y d : EReal) * (w d + if e = d then 1 else 0) = (y e : EReal) + ∑ d, (y d : EReal) * w d := by
  rw [Finset.sum_congr rfl fun d _ => mul_add_bit (y d) (w d) (e = d), Finset.sum_add_distrib, add_comm]
  congr 1
  rw [Finset.sum_ite_eq Finset.univ e fun d => (y d : EReal), if_pos (Finset.mem_univ e)]

end Cert.Film

end
-- ==== Proof.Row.lean ====
/-
  The kernel's function of one row, over extended reals: the row is normalised, scaled and shifted by the coefficients
  of its id (picked from a table of eight rows by comparing the id with each row number), multiplied by a row of
  weights, and a bias is added.
-/
module

public import proofs.«01_k».proof.Proof.Norm
public import proofs.«01_k».proof.Proof.Algebra

@[expose] public section

noncomputable section

open Idealize.ShloMosaic
open scoped BigOperators

namespace Cert.Film

/-- The table entry whose row number is the id: a sum in which every other entry is replaced by zero. -/
def pick (id : BitVec 32) (f : Fin 8 → EReal) : EReal :=
  ∑ j : Fin 8, Scalar.select (IntOp.cmpi .eq (BitVec.ofNat 32 j) id) (f j) 0

/-- The entry the kernel computes from a row `x` with id `id`, scale and shift tables `g` and `b`, weights `w` and bias `c`. -/
def rowOut (x : Fin 1024 → EReal) (id : BitVec 32) (g b : Fin 8 → Fin 1024 → EReal) (w : Fin 1024 → EReal) (c : EReal) :
    EReal :=
  ∑ d, (unit x d * pick id (fun j => g j d) + pick id (fun j => b j d)) * w d + c

/-- Picking by the word of a row number gives that row's entry. -/
theorem pick_ofNat (i : Fin 8) (f : Fin 8 → EReal) : pick (BitVec.ofNat 32 i) f = f i := by
  have hne : ∀ i j : Fin 8, j ≠ i → IntOp.cmpi .eq (BitVec.ofNat 32 j) (BitVec.ofNat 32 i) ≠ 1#1 := by decide
  have heq : ∀ i : Fin 8, IntOp.cmpi .eq (BitVec.ofNat 32 i) (BitVec.ofNat 32 i) = 1#1 := by decide
  unfold pick
  exact (Finset.sum_eq_single i (fun j _ h => if_neg (hne i j h)) (fun h => absurd (Finset.mem_univ i) h)).trans
    (if_pos (heq i))

/-- With real coefficients at the id's row and weights that are `w` plus the identity at column `e`, the kernel's entry
    is the reference's: the scaled and shifted row's entry `e`, plus the row's product with `w`, plus the bias. -/
theorem rowOut_eq (x : Fin 1024 → EReal) (i : Fin 8) (g b : Fin 8 → Fin 1024 → EReal) (w : Fin 1024 → EReal) (c : EReal)
    (e : Fin 1024) (γ β : Fin 1024 → ℝ) (s : ℝ) (hg : ∀ d, g i d = (γ d : EReal) * (s : EReal))
    (hb : ∀ d, b i d = (β d : EReal) * (s : EReal)) :
    rowOut x (BitVec.ofNat 32 i) g b (fun d => w d + if e = d then 1 else 0) c
      = ((unit x e * (γ e : EReal) + (β e : EReal)) * (s : EReal)
          + ∑ d, ((unit x d * (γ d : EReal) + (β d : EReal)) * (s : EReal)) * w d) + c := by
  choose n hn using unit_real x
  have hk : ∀ d, unit x d * pick (BitVec.ofNat 32 i) (fun j => g j d) + pick (BitVec.ofNat 32 i) (fun j => b j d)
      = (((n d * γ d + β d) * s : ℝ) : EReal) := fun d => by
    rw [pick_ofNat, pick_ofNat, hn, hg, hb]; norm_cast; ring
  have hr : ∀ d, (unit x d * (γ d : EReal) + (β d : EReal)) * (s : EReal) = (((n d * γ d + β d) * s : ℝ) : EReal) := fun d => by
    rw [hn]; norm_cast
  unfold rowOut
  simp only [hk, hr]
  rw [sum_mul_add_eye]

end Cert.Film

end
-- ==== Proof.Block.lean ====
/-
  What one grid point's block computes: every entry of the 1024-row output block is the row function of the block's row,
  the row's id, the coefficient tables, the weights' row and the bias. The body stores four chunks of 256 rows, each by
  the same chain of operations.
-/
module

public import proofs.«01_k».proof.Proof.Gen.KernelIdeal.Frame
public import proofs.«01_k».proof.Proof.Row
public import Idealize.ShloMosaic.Lib.Pipeline.ValueKit

@[expose] public section

set_option maxRecDepth 16384

noncomputable section

open Idealize.ShloMosaic
open scoped BigOperators

namespace Cert.Film

open Cert.KernelIdeal Cert.KernelIdeal.Gen

/-- The row function read off blocks: entry `(p, e)` from the ids `ids`, the rows `x`, the scales `g` in the first 1024
    columns of the table and the shifts in the rest, the weights `w` and the bias `b`. -/
abbrev blockRow (ids : Fin 1024 → BitVec 32) (x : Fin 1024 → Fin 1024 → EReal) (g : S8x2048.Idx → EReal)
    (w : S1024x1024.Idx → EReal) (b : S1x1024.Idx → EReal) (p e : Fin 1024) : EReal :=
  rowOut (x p) (ids p) (fun j d => g (ix2 j ⟨d, by omega⟩)) (fun j d => g (ix2 j ⟨1024 + d, by omega⟩))
    (fun d => w (ix2 e d)) (b (ix2 0 e))

/-- One chunk of 256 rows: its stored value at a row and a column is the row function of the chunk's row. -/
theorem chunk_apply (X : Vec Ideal S256x1024 .f32) (I : Vec Ideal S1x1x256 .i32) (G : Vec Ideal S8x2048 .bf16)
    (W : Vec Ideal S1024x1024 .bf16) (B : Vec Ideal S1x1024 .f32) (r : Fin 256) (e : Fin 1024) :
    k0_pay3 (k0_pay2 X I G W) B (ix2 r e)
      = rowOut (fun k => X (ix2 r k)) (I (ix3 0 0 r)) (fun j d => G (ix2 j ⟨d, by omega⟩))
          (fun j d => G (ix2 j ⟨1024 + d, by omega⟩)) (fun d => W (ix2 e d)) (B (ix2 0 e)) := by
  pointwise [k0_pay2, k0_pay3]
  rfl

/-- The same at an index of the chunk placed in the block: the row is the block's row `p` and the column the block's `e`. -/
theorem chunk_at (x0 : Vec Ideal S1x1x1024 .i32) (x1 : Vec Ideal S1024x1024 .f32) (x2 : Vec Ideal S8x2048 .bf16)
    (x3 : Vec Ideal S1024x1024 .bf16) (x4 : Vec Ideal S1x1024 .f32) (X : Vec Ideal S256x1024 .f32)
    (I : Vec Ideal S1x1x256 .i32) (x : S256x1024.Idx) (p e : Fin 1024) (he : (e : ℕ) = x 1)
    (hX : ∀ k : Fin 1024, X (ix2 (x 0) k) = x1 (ix2 p k)) (hI : I (ix3 0 0 (x 0)) = x0 (ix3 0 0 p)) :
    k0_pay3 (k0_pay2 X I x2 x3) x4 x = blockRow (fun p => x0 (ix3 0 0 p)) (fun p k => x1 (ix2 p k)) x2 x3 x4 p e := by
  obtain rfl : e = x 1 := Fin.ext he
  have hx : x = ix2 (x 0) (x 1) := funext fun a => by fin_cases a <;> rfl
  refine (congrArg (k0_pay3 (k0_pay2 X I x2 x3) x4) hx).trans ((chunk_apply X I x2 x3 x4 (x 0) (x 1)).trans ?_)
  exact congrArg₂ (fun f i => rowOut f i _ _ _ _) (funext hX) hI

/-- An entry of the output block is the row function of its row. -/
theorem out_apply (x0 : Vec Ideal S1x1x1024 .i32) (x1 : Vec Ideal S1024x1024 .f32) (x2 : Vec Ideal S8x2048 .bf16)
    (x3 : Vec Ideal S1024x1024 .bf16) (x4 : Vec Ideal S1x1024 .f32) (y : S1024x1024.Idx) :
    out0_5 x0 x1 x2 x3 x4 y
      = blockRow (fun p => x0 (ix3 0 0 p)) (fun p k => x1 (ix2 p k)) x2 x3 x4 (y 0) (y 1) := by
  canon_tiles x h
  all_goals
    open_payloads
    refine chunk_at x0 x1 x2 x3 x4 _ _ x (y 0) (y 1) h1 (fun k => ?_) ?_
    · refine View.ld_unit_apply_of _ _ _ _ _ _ fun a => ?_
      fin_cases a
      · first | exact h0 | exact h0.trans (Nat.zero_add _).symm
      · exact (Nat.zero_add _).symm
    · refine View.ld_unit_apply_of _ _ _ _ _ _ fun a => ?_
      fin_cases a
      · rfl
      · rfl
      · first | exact h0 | exact h0.trans (Nat.zero_add _).symm

end Cert.Film

end
-- ==== Proof.KernelValue.lean ====
/-
  What the kernel's output array holds after the region, as the row function of the arrays that the host lines before
  the region leave.
-/
module

public import proofs.«01_k».proof.Proof.Block
public import Idealize.ShloMosaic.Lib.Claim

@[expose] public section

set_option maxRecDepth 16384

noncomputable section

open Idealize.ShloMosaic Idealize.ShloMosaic.TcCoe Idealize.SL.Sem
open scoped BigOperators

namespace Cert.Film

open Cert.KernelIdeal Cert.KernelIdeal.Gen

variable (m : (ℓ : Loc nD τ sig) → Buf (Elt Ideal) ℓ)

/-! ## Which block a grid point reads and writes -/

/-- The block that grid point `t` reads of the ids. -/
theorem index0 : ∀ t : Fin cfg0.N, win0_0.index t = ![t.val, 0, 0] := (by decide +kernel : ∀ t : Fin grid0.N, _)
/-- The block of rows that it reads. -/
theorem index1 : ∀ t : Fin cfg0.N, win0_1.index t = ![t.val, 0] := (by decide +kernel : ∀ t : Fin grid0.N, _)
/-- It reads the whole table. -/
theorem index2 : ∀ t : Fin cfg0.N, win0_2.index t = ![0, 0] := (by decide +kernel : ∀ t : Fin grid0.N, _)
/-- It reads the whole weights. -/
theorem index3 : ∀ t : Fin cfg0.N, win0_3.index t = ![0, 0] := (by decide +kernel : ∀ t : Fin grid0.N, _)
/-- It reads the whole bias. -/
theorem index4 : ∀ t : Fin cfg0.N, win0_4.index t = ![0, 0] := (by decide +kernel : ∀ t : Fin grid0.N, _)
/-- The block of rows that it writes. -/
theorem index5 : ∀ t : Fin cfg0.N, win0_5.index t = ![t.val, 0] := (by decide +kernel : ∀ t : Fin grid0.N, _)

/-! ## The input blocks at an index -/

/-- A row of 1024-row block `t` is a row of the whole array. -/
theorem row_lt (t : Fin cfg0.N) (p : Fin 1024) : t.val * 1024 + p.val < 32768 := by
  have ht : t.val < 32 := t.isLt
  omega

/-- An id of the block is an id of the array. -/
theorem ids_block (c : Dev nD) (t : Fin cfg0.N) (p : Fin 1024) :
    iblk m c 0 t (ix3 0 0 p) = V m c main_v1 (ix3 ⟨t.val, t.isLt⟩ 0 p) := by
  refine congrArg (V m c main_v1) ?_
  blk_ext [index0 t]

/-- A row of the block is a row of the array. -/
theorem rows_block (c : Dev nD) (t : Fin cfg0.N) (p k : Fin 1024) :
    iblk m c 1 t (ix2 p k) = V m c main_v0 (ix2 ⟨t.val * 1024 + p.val, row_lt t p⟩ k) := by
  refine congrArg (V m c main_v0) ?_
  blk_ext [index1 t]

/-- The table's block is the table. -/
theorem table_block (c : Dev nD) (t : Fin cfg0.N) (j : Fin 8) (d : Fin 2048) :
    iblk m c 2 t (ix2 j d) = V m c main_v10 (ix2 j d) := by
  refine congrArg (V m c main_v10) ?_
  blk_ext [index2 t]

/-- The weights' block is the weights. -/
theorem weights_block (c : Dev nD) (t : Fin cfg0.N) (e d : Fin 1024) :
    iblk m c 3 t (ix2 e d) = V m c main_v19 (ix2 e d) := by
  refine congrArg (V m c main_v19) ?_
  blk_ext [index3 t]

/-- The bias's block is the bias. -/
theorem bias_block (c : Dev nD) (t : Fin cfg0.N) (e : Fin 1024) :
    iblk m c 4 t (ix2 0 e) = V m c main_v11 (ix2 0 e) := by
  refine congrArg (V m c main_v11) ?_
  blk_ext [index4 t]

/-- The row function of row `p` of block `t`, at column `e`, of the arrays the host lines leave. -/
def blockOut (c : Dev nD) (t : Fin 32) (p e : Fin 1024) : EReal :=
  rowOut (fun k => V m c main_v0 (ix2 ⟨t.val * 1024 + p.val, by omega⟩ k)) (V m c main_v1 (ix3 t 0 p))
    (fun j d => V m c main_v10 (ix2 j ⟨d, by omega⟩)) (fun j d => V m c main_v10 (ix2 j ⟨1024 + d, by omega⟩))
    (fun d => V m c main_v19 (ix2 e d)) (V m c main_v11 (ix2 0 e))

/-- It is the row function of the point's blocks. -/
theorem blockRow_blocks (c : Dev nD) (t : Fin cfg0.N) (p e : Fin 1024) :
    blockRow (fun p => iblk m c 0 t (ix3 0 0 p)) (fun p k => iblk m c 1 t (ix2 p k)) (iblk m c 2 t) (iblk m c 3 t)
      (iblk m c 4 t) p e = blockOut m c ⟨t.val, t.isLt⟩ p e := by
  unfold blockOut blockRow
  simp only [ids_block, rows_block, table_block, weights_block, bias_block]

/-- The kernel's output array: row `r` is row `r % 1024` of block `r / 1024`. -/
def flat (c : Dev nD) : S32768x1024.Idx → EReal := fun i =>
  blockOut m c ⟨(i 0 : ℕ) / 1024, Nat.div_lt_of_lt_mul (i 0).isLt⟩ ⟨(i 0 : ℕ) % 1024, Nat.mod_lt _ (by decide)⟩ (i 1)

/-- The output array ends holding that function: the 32 blocks tile it, and each block is the function of its rows. -/
theorem final_out (c : Dev nD) : (dats m 0 c).arrAt 5 cfg0.N = flat m c := by
  refine (dats m 0 c).arrAt_eq_of_covers 5 _ (by decide +kernel) fun t hf y => ?_
  blk_simp
  rw [after0_5, out_apply]
  have hp : (y 0 : ℕ) < 1024 := (y 0).isLt
  have h0 : ((win0_5.blk t).view.emb y 0 : ℕ) = t.val * 1024 + y 0 := by blk_simp [index5 t]
  have h1 : (win0_5.blk t).view.emb y 1 = y 1 := Fin.ext (by blk_simp [index5 t])
  have hq : (⟨((win0_5.blk t).view.emb y 0 : ℕ) / 1024, Nat.div_lt_of_lt_mul (Fin.isLt _)⟩ : Fin 32) = ⟨t.val, t.isLt⟩ :=
    Fin.ext (by show _ / 1024 = t.val; omega)
  have hr : (⟨((win0_5.blk t).view.emb y 0 : ℕ) % 1024, Nat.mod_lt _ (by decide)⟩ : Fin 1024) = y 0 :=
    Fin.ext (by show _ % 1024 = (y 0 : ℕ); omega)
  unfold flat
  rw [hq, hr, h1]
  exact blockRow_blocks m c t (y 0) (y 1)

end Cert.Film

end
-- ==== Proof.HostLines.lean ====
/-
  The arrays that the host lines before the region leave, at an index, in terms of the arguments: the rows and the ids
  are reshapes, the table is both parameter tables times the scale, the weights are the linear map plus the identity.
-/
module

public import proofs.«01_k».proof.Proof.KernelValue

@[expose] public section

set_option maxRecDepth 16384

noncomputable section

open Idealize.ShloMosaic Idealize.ShloMosaic.StableHlo Idealize.ShloMosaic.TcCoe Idealize.SL.Sem
open scoped BigOperators

namespace Cert.Film

open Cert.KernelIdeal Cert.KernelIdeal.Gen

variable (m : (ℓ : Loc nD τ sig) → Buf (Elt Ideal) ℓ)

/-! ## The arguments as launched, over extended reals and words -/

/-- The rows. -/
abbrev argX (c : Dev nD) : S4x8192x1024.Idx → EReal := m ((c : Thread nD τ).loc main_arg0)
/-- The ids. -/
abbrev argIds (c : Dev nD) : S4x8192.Idx → BitVec 32 := m ((c : Thread nD τ).loc main_arg1)
/-- The weight table. -/
abbrev argGamma (c : Dev nD) : S5x1024.Idx → EReal := m ((c : Thread nD τ).loc main_arg2)
/-- The shift table. -/
abbrev argBeta (c : Dev nD) : S5x1024.Idx → EReal := m ((c : Thread nD τ).loc main_arg3)
/-- The scales. -/
abbrev argScale (c : Dev nD) : S5.Idx → EReal := m ((c : Thread nD τ).loc main_arg4)
/-- The linear map. -/
abbrev argW (c : Dev nD) : S1024x1024.Idx → EReal := m ((c : Thread nD τ).loc main_arg5)
/-- The bias. -/
abbrev argB (c : Dev nD) : S1024.Idx → EReal := m ((c : Thread nD τ).loc main_arg6)

/-! ## The arrays the host lines before the region leave, at an index -/

/-- Flat row `r` is sequence position `r % 8192` of batch entry `r / 8192`. -/
theorem rows_apply (c : Dev nD) (r : Fin 32768) (k : Fin 1024) :
    V m c main_v0 (ix2 r k) = argX m c (ix3 ⟨r.val / 8192, by omega⟩ ⟨r.val % 8192, by omega⟩ k) := by
  unfold V V0
  simp only [List.flatten_cons, List.flatten_nil, List.append_nil, List.cons_append, List.nil_append, TRef.binary,
    TRef.unary, TRef.toBuf, TRef.ofBuf, cast_eq]
  after_results_simp
  pointwise

/-- The id of row `p` of block `t`. -/
theorem ids_apply (c : Dev nD) (t : Fin 32) (p : Fin 1024) :
    V m c main_v1 (ix3 t 0 p) = argIds m c (ix2 ⟨t.val / 8, by omega⟩ ⟨t.val % 8 * 1024 + p.val, by omega⟩) := by
  unfold V V0
  simp only [List.flatten_cons, List.flatten_nil, List.append_nil, List.cons_append, List.nil_append, TRef.binary,
    TRef.unary, TRef.toBuf, TRef.ofBuf, cast_eq]
  after_results_simp
  pointwise

/-- The bias row is the bias vector. -/
theorem bias_apply (c : Dev nD) (e : Fin 1024) : V m c main_v11 (ix2 0 e) = argB m c (ix1 e) := by
  unfold V V0
  simp only [List.flatten_cons, List.flatten_nil, List.append_nil, List.cons_append, List.nil_append, TRef.binary,
    TRef.unary, TRef.toBuf, TRef.ofBuf, cast_eq]
  after_results_simp
  pointwise

/-- The weights are the linear map plus the identity. -/
theorem weights_apply (c : Dev nD) (e d : Fin 1024) :
    V m c main_v19 (ix2 e d) = argW m c (ix2 e d) + if e = d then (1 : EReal) else 0 := by
  unfold V V0
  simp only [List.flatten_cons, List.flatten_nil, List.append_nil, List.cons_append, List.nil_append, TRef.binary,
    TRef.unary, TRef.toBuf, TRef.ofBuf, cast_eq]
  after_results_simp
  pointwise
  refine congrArg (argW m c (ix2 e d) + ·) ?_
  have hw : IntOp.addi (BitVec.ofNat 32 e.val) 0#32 = BitVec.ofNat 32 e.val := BitVec.add_zero _
  rw [hw]
  by_cases h : e = d
  · subst h
    rw [if_pos rfl]
    have hc : IntOp.cmpi .eq (BitVec.ofNat 32 e.val) (BitVec.ofNat 32 e.val) = 1#1 := by simp [IntOp.cmpi]
    rw [hc]
    show (((1#1 : BitVec 1).toNat : ℝ) : EReal) = 1
    simp
  · rw [if_neg h]
    have hn : BitVec.ofNat 32 e.val ≠ BitVec.ofNat 32 d.val := fun q => h (Fin.ext (by
      have := congrArg BitVec.toNat q
      simp only [BitVec.toNat_ofNat] at this
      omega))
    have hc : IntOp.cmpi .eq (BitVec.ofNat 32 e.val) (BitVec.ofNat 32 d.val) = 0#1 := by
      show BitVec.ofBool (BitVec.ofNat 32 e.val == BitVec.ofNat 32 d.val) = 0#1
      rw [beq_eq_false_iff_ne.2 hn]
      rfl
    rw [hc]
    show (((0#1 : BitVec 1).toNat : ℝ) : EReal) = 0
    simp

/-- The left half of table row `j` is the `j`-th weight row times the `j`-th scale. -/
theorem scales_apply (c : Dev nD) (j : Fin 8) (hj : j.val < 5) (d : Fin 1024) :
    V m c main_v10 (ix2 j ⟨d, by omega⟩) = argGamma m c (ix2 ⟨j, hj⟩ d) * argScale m c (ix1 ⟨j, hj⟩) := by
  unfold V V0
  simp only [List.flatten_cons, List.flatten_nil, List.append_nil, List.cons_append, List.nil_append, TRef.binary,
    TRef.unary, TRef.toBuf, TRef.ofBuf, cast_eq]
  after_results_simp
  pointwise
  rw [dif_pos ⟨hj, by omega⟩]
  after_results_simp
  pointwise

/-- The right half of table row `j` is the `j`-th shift row times the `j`-th scale. -/
theorem shifts_apply (c : Dev nD) (j : Fin 8) (hj : j.val < 5) (d : Fin 1024) :
    V m c main_v10 (ix2 j ⟨1024 + d, by omega⟩) = argBeta m c (ix2 ⟨j, hj⟩ d) * argScale m c (ix1 ⟨j, hj⟩) := by
  unfold V V0
  simp only [List.flatten_cons, List.flatten_nil, List.append_nil, List.cons_append, List.nil_append, TRef.binary,
    TRef.unary, TRef.toBuf, TRef.ofBuf, cast_eq]
  after_results_simp
  pointwise
  rw [dif_pos ⟨hj, by omega⟩]
  after_results_simp
  pointwise

end Cert.Film

end
-- ==== Proof.KernelRun.lean ====
/-
  The kernel's run: the host line after the region reshapes the output array, so the result at (batch, position, column)
  is the row function there, written in the arguments.
-/
module

public import proofs.«01_k».proof.Proof.HostLines

@[expose] public section

set_option maxRecDepth 16384

noncomputable section

open Idealize.ShloMosaic Idealize.ShloMosaic.StableHlo Idealize.ShloMosaic.TcCoe Idealize.SL.Sem
open scoped BigOperators

namespace Cert.Film

open Cert.KernelIdeal Cert.KernelIdeal.Gen

variable (m : (ℓ : Loc nD τ sig) → Buf (Elt Ideal) ℓ) (ρ : Dev nD → PrngReg)

/-- The kernel's result as one array: the output array's row `b * 8192 + s`. -/
def result (c : Dev nD) : S4x8192x1024.Idx → EReal :=
  shapeCast S4x8192x1024 (flat m c) shapeCasts_S32768x1024_S4x8192x1024

/-- The run ends with that array in the result and the arguments unchanged. -/
theorem kernel_run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, h.2 c⟩) (θ_run_and (run_main m ρ) (unchanged m ρ))
  refine ((h.1 c).2 main_v21 (by decide)).trans ?_
  unfold Pipeline.afterTail₀
  simp only [List.flatten_cons, List.flatten_nil, List.append_nil, List.cons_append, List.nil_append, TRef.binary,
    TRef.unary, TRef.toBuf, TRef.ofBuf, cast_eq]
  after_results_simp
  have hw : Pipeline.withArrays (cfgs 0).spec c (V0 m c) (fun w => (dats m 0 c).arrAt w (cfgs 0).N)
      (Proc.tc.devRef main_v20) = flat m c :=
    (Pipeline.withArrays_arr cfg0.spec (by decide) c (V0 m c) (fun w => (dats m 0 c).arrAt w cfg0.N) 5).trans
      (final_out m c)
  rw [hw]
  rfl

/-- The result at an index, as the row function of the arguments. -/
theorem result_apply (c : Dev nD) (b : Fin 4) (s : Fin 8192) (e : Fin 1024) :
    result m c (ix3 b s e) = rowOut (fun k => argX m c (ix3 b s k)) (argIds m c (ix2 b s))
      (fun j d => V m c main_v10 (ix2 j ⟨d, by omega⟩)) (fun j d => V m c main_v10 (ix2 j ⟨1024 + d, by omega⟩))
      (fun d => argW m c (ix2 e d) + if e = d then (1 : EReal) else 0) (argB m c (ix1 e)) := by
  have hr : result m c (ix3 b s e) = flat m c (ix2 ⟨b.val * 8192 + s.val, by omega⟩ e) := by
    unfold result
    pointwise
  rw [hr]
  show blockOut m c ⟨(b.val * 8192 + s.val) / 1024, _⟩ ⟨(b.val * 8192 + s.val) % 1024, _⟩ e = _
  unfold blockOut
  have hb : ((b.val * 8192 + s.val) / 1024 * 1024 + (b.val * 8192 + s.val) % 1024) / 8192 = b.val := by omega
  have hs : ((b.val * 8192 + s.val) / 1024 * 1024 + (b.val * 8192 + s.val) % 1024) % 8192 = s.val := by omega
  have hb' : (b.val * 8192 + s.val) / 1024 / 8 = b.val := by omega
  have hs' : (b.val * 8192 + s.val) / 1024 % 8 * 1024 + (b.val * 8192 + s.val) % 1024 = s.val := by omega
  have hx : ∀ k, V m c main_v0 (ix2 ⟨(b.val * 8192 + s.val) / 1024 * 1024 + (b.val * 8192 + s.val) % 1024, by omega⟩ k)
      = argX m c (ix3 b s k) := fun k => (rows_apply m c _ k).trans (by simp only [hb, hs])
  have hi : V m c main_v1 (ix3 ⟨(b.val * 8192 + s.val) / 1024, by omega⟩ 0 ⟨(b.val * 8192 + s.val) % 1024, by omega⟩)
      = argIds m c (ix2 b s) := (ids_apply m c _ _).trans (by simp only [hb', hs'])
  exact congr (congr (congrFun (congrFun (congr (congrArg rowOut (funext hx)) hi) _) _)
    (funext (weights_apply m c e))) (bias_apply m c e)

end Cert.Film

end
-- ==== Proof.RefValue.lean ====
/-
  The reference's result at an index, where the position's id is one of the five table rows: the clip, the wrap and the
  final select do nothing, the three gathers read the id's row, and the two reductions are the normalised row.
-/
module

public import proofs.«01_k».proof.Proof.Norm
public import proofs.«01_k».proof.Proof.Gen.ReferenceIdeal.Read
public import Idealize.ShloMosaic.Lib.Pointwise.Index

@[expose] public section

set_option maxRecDepth 16384

noncomputable section

open Idealize.ShloMosaic Idealize.ShloMosaic.StableHlo Idealize.ShloMosaic.TcCoe
open scoped BigOperators

namespace Cert.Film

open Cert.ReferenceIdeal Cert.ReferenceIdeal.Gen Cert.ReferenceIdeal.Read

/-- A gather of table rows, where the position's start index is the word of a row number, reads that row. -/
theorem gather_rows (x : S5x1024.Idx → EReal) (idx : IVec S4x8192x1 32) (b : Fin 4) (s : Fin 8192) (d : Fin 1024)
    (j : Fin 5) (h : idx (ix3 b s 0) = BitVec.ofNat 32 j) :
    Host.gather gather_S5x1024_S4x8192x1_S4x8192x1024_2_0_n_n_0_2_11024 x idx (ix3 b s d) = x (ix2 j d) := by
  refine congrArg x (funext fun a => Fin.ext ?_)
  match a with
  | ⟨0, _⟩ =>
    show min (idx _).toInt.toNat (5 - 1) + 0 + 0 = j.val
    have hi : GatherDims.siIdx gather_S5x1024_S4x8192x1_S4x8192x1024_2_0_n_n_0_2_11024 (ix3 b s d) ⟨0, by decide⟩ = ix3 b s 0 := by
      funext a
      match a with
      | ⟨0, _⟩ => rfl
      | ⟨1, _⟩ => rfl
      | ⟨2, _⟩ => rfl
    refine (congrArg (fun q => min (idx q).toInt.toNat (5 - 1) + 0 + 0) hi).trans ?_
    show min (idx (ix3 b s 0)).toInt.toNat (5 - 1) + 0 + 0 = j.val
    rw [h]
    clear h hi
    revert j
    decide
  | ⟨1, _⟩ =>
    show 0 + 0 + d.val = d.val
    omega

/-- A gather of single entries, where the position's start index is the word of an entry's number, reads that entry. -/
theorem gather_entry (x : S5.Idx → EReal) (idx : IVec S4x8192x1 32) (b : Fin 4) (s : Fin 8192)
    (j : Fin 5) (h : idx (ix3 b s 0) = BitVec.ofNat 32 j) :
    Host.gather gather_S5_S4x8192x1_S4x8192_n_0_n_n_0_2_1 x idx (ix2 b s) = x (ix1 j) := by
  refine congrArg x (funext fun a => Fin.ext ?_)
  match a with
  | ⟨0, _⟩ =>
    show min (idx _).toInt.toNat (5 - 1) + 0 + 0 = j.val
    have hi : GatherDims.siIdx gather_S5_S4x8192x1_S4x8192_n_0_n_n_0_2_1 (ix2 b s) ⟨0, by decide⟩ = ix3 b s 0 := by
      funext a
      match a with
      | ⟨0, _⟩ => rfl
      | ⟨1, _⟩ => rfl
      | ⟨2, _⟩ => rfl
    refine (congrArg (fun q => min (idx q).toInt.toNat (5 - 1) + 0 + 0) hi).trans ?_
    show min (idx (ix3 b s 0)).toInt.toNat (5 - 1) + 0 + 0 = j.val
    rw [h]
    clear h hi
    revert j
    decide

section

variable (x : S4x8192x1024.Idx → EReal) (ids : S4x8192.Idx → BitVec 32) (γ β : S5x1024.Idx → EReal) (σ : S5.Idx → EReal)
  (W : S1024x1024.Idx → EReal) (bias : S1024.Idx → EReal)
  (b : Fin 4) (s : Fin 8192) (j : Fin 5) (hid : ids (ix2 b s) = BitVec.ofNat 32 j)

/-- The normalised row of the reference. -/
theorem normed_apply (d : Fin 1024) :
    val_main_v20 (F := Ideal) x (ix3 b s d) = unit (fun k => x (ix3 b s k)) d := by
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_cst_apply, val_main_cst_2_apply, val_main_cst_3_apply,
    val_main_cst_4_apply, val_main_cst_5_apply]
  have h1 : ∀ k, idx_main_v3 (idx_main_v4 (idx_main_v14 (ix3 b s d))) k = ix3 b s k := fun k => by
    funext a; match a with | ⟨0, _⟩ => rfl | ⟨1, _⟩ => rfl | ⟨2, _⟩ => rfl
  have h2 : ∀ k, idx_main_v10 (idx_main_v11 (idx_main_v19 (ix3 b s d))) k = ix3 b s k := fun k => by
    funext a; match a with | ⟨0, _⟩ => rfl | ⟨1, _⟩ => rfl | ⟨2, _⟩ => rfl
  have h3 : ∀ k l, idx_main_v3 (idx_main_v4 (idx_main_v7 (ix3 b s k))) l = ix3 b s l := fun k l => by
    funext a; match a with | ⟨0, _⟩ => rfl | ⟨1, _⟩ => rfl | ⟨2, _⟩ => rfl
  have h0 : (FloatOps.ofBits FTy.f32 0#32 : Ideal .f32) = (0 : EReal) := Ideal.ofBits_zero_f32
  simp only [h1, h2, h3, h0, zero_add]
  rfl

include hid in
/-- The clipped id is the id. -/
theorem clipped_apply : val_main_v2 (F := Ideal) ids (ix2 b s) = BitVec.ofNat 32 j := by
  simp only [val_main_v2_apply, val_main_call0_v4_apply, val_main_call0_v3_apply, val_main_c_1_apply,
    val_main_call0_v2_apply, val_main_call0_v1_apply, val_main_call0_v0_apply, val_main_c_0_apply, hid]
  clear hid
  revert j
  decide

/-- Adding the table's length to a negative row number leaves the word of a row number alone. -/
theorem wrapped (j : Fin 5) : Scalar.select (IntOp.cmpi .slt (BitVec.ofNat 32 j) 0#32)
    (IntOp.addi (BitVec.ofNat 32 j) 5#32) (BitVec.ofNat 32 j) = BitVec.ofNat 32 j := by
  revert j
  decide

include hid in
/-- The three start indices are the id. -/
theorem start_apply : val_main_v26 (F := Ideal) ids (ix3 b s 0) = BitVec.ofNat 32 j
    ∧ val_main_v33 (F := Ideal) ids (ix3 b s 0) = BitVec.ofNat 32 j
    ∧ val_main_v40 (F := Ideal) ids (ix3 b s 0) = BitVec.ofNat 32 j := by
  have h26 : idx_main_v26 (ix3 b s 0) = ix2 b s := by funext a; match a with | ⟨0, _⟩ => rfl | ⟨1, _⟩ => rfl
  have h33 : idx_main_v33 (ix3 b s 0) = ix2 b s := by funext a; match a with | ⟨0, _⟩ => rfl | ⟨1, _⟩ => rfl
  have h40 : idx_main_v40 (ix3 b s 0) = ix2 b s := by funext a; match a with | ⟨0, _⟩ => rfl | ⟨1, _⟩ => rfl
  refine ⟨?_, ?_, ?_⟩
  · rw [val_main_v26_apply, h26, val_main_v25_apply, val_main_v22_apply, val_main_v24_apply, clipped_apply ids b s j hid]
    exact wrapped j
  · rw [val_main_v33_apply, h33, val_main_v32_apply, val_main_v29_apply, val_main_v31_apply, clipped_apply ids b s j hid]
    exact wrapped j
  · rw [val_main_v40_apply, h40, val_main_v39_apply, val_main_v36_apply, val_main_v38_apply, clipped_apply ids b s j hid]
    exact wrapped j

include hid in
/-- The id is below five. -/
theorem valid_apply (d : Fin 1024) : val_main_call1_v0 (F := Ideal) ids (ix3 b s d) = 1#1 := by
  have h : idx_main_v47 (idx_main_call1_v0 (ix3 b s d)) = ix2 b s := by
    funext a; match a with | ⟨0, _⟩ => rfl | ⟨1, _⟩ => rfl
  rw [val_main_call1_v0_apply, val_main_v47_apply, h, val_main_v1_apply, hid]
  show IntOp.cmpi .slt (BitVec.ofNat 32 j) 5#32 = 1#1
  clear hid h
  revert j
  decide

include hid in
/-- The scaled, shifted row that enters the linear map. -/
theorem film_apply (d : Fin 1024) : val_main_v48 (F := Ideal) x ids γ β σ (ix3 b s d)
    = (unit (fun k => x (ix3 b s k)) d * γ (ix2 j d) + β (ix2 j d)) * σ (ix1 j) := by
  obtain ⟨h1, h2, h3⟩ := start_apply ids b s j hid
  have h : idx_main_v42 (idx_main_v45 (ix3 b s d)) = ix2 b s := by
    funext a; match a with | ⟨0, _⟩ => rfl | ⟨1, _⟩ => rfl
  have hγ : val_main_v27 (F := Ideal) ids γ (ix3 b s d) = γ (ix2 j d) := gather_rows γ _ b s d j h1
  have hβ : val_main_v34 (F := Ideal) ids β (ix3 b s d) = β (ix2 j d) := gather_rows β _ b s d j h2
  have hσ : val_main_v41 (F := Ideal) ids σ (ix2 b s) = σ (ix1 j) := gather_entry σ _ b s j h3
  rw [val_main_v48_apply, valid_apply ids b s j hid, val_main_v46_apply, val_main_v44_apply, val_main_v43_apply,
    val_main_v45_apply, val_main_v42_apply, h, hγ, hβ, hσ, normed_apply]
  rfl

include hid in
/-- The reference's result: the row, plus its product with the weights' row `e`, plus the bias. -/
theorem reference_apply (e : Fin 1024) : val_main_v53 (F := Ideal) x ids γ β σ W bias (ix3 b s e)
    = ((unit (fun k => x (ix3 b s k)) e * γ (ix2 j e) + β (ix2 j e)) * σ (ix1 j)
        + ∑ d, ((unit (fun k => x (ix3 b s k)) d * γ (ix2 j d) + β (ix2 j d)) * σ (ix1 j)) * W (ix2 e d))
      + bias (ix1 e) := by
  have hl : ∀ d, lidx_main_v49 (ix3 b s e) d = ix3 b s d := fun d => by
    funext a; match a with | ⟨0, _⟩ => rfl | ⟨1, _⟩ => rfl | ⟨2, _⟩ => rfl
  have hr : ∀ d, ridx_main_v49 (ix3 b s e) d = ix2 e d := fun d => by
    funext a; match a with | ⟨0, _⟩ => rfl | ⟨1, _⟩ => rfl
  have hb : idx_main_v51 (idx_main_v52 (ix3 b s e)) = ix1 e := by funext a; match a with | ⟨0, _⟩ => rfl
  rw [val_main_v53_apply, val_main_v50_apply, val_main_v49_apply, val_main_v52_apply, val_main_v51_apply, hb]
  simp only [hl, hr, film_apply x ids γ β σ b s j hid]
  rfl

end

end Cert.Film

end
-- ==== Proof.Equation.lean ====
/-
  The equation: at every index the kernel's result is the reference's, where the precondition holds.
-/
module

public import proofs.«01_k».proof.Proof.KernelRun
public import proofs.«01_k».proof.Proof.RefValue

@[expose] public section

noncomputable section

open Idealize.ShloMosaic Idealize.ShloMosaic.TcCoe Idealize.SL.Sem
open scoped BigOperators

namespace Cert.Film

open Cert.KernelIdeal Cert.KernelIdeal.Gen

variable (m : (ℓ : Loc nD τ sig) → Buf (Elt Ideal) ℓ)

/-- The kernel's result array is the reference's function of the same arguments, where every id is the word of a table
    row and the three parameter tables hold real numbers. -/
theorem result_eq (c : Dev nD) (hid : ∀ i, ∃ j : Fin 5, argIds m c i = BitVec.ofNat 32 j)
    (hγ : ∀ i, ∃ r : ℝ, argGamma m c i = (r : EReal)) (hβ : ∀ i, ∃ r : ℝ, argBeta m c i = (r : EReal))
    (hσ : ∀ i, ∃ r : ℝ, argScale m c i = (r : EReal)) :
    Cert.ReferenceIdeal.Read.val_main_v53 (F := Ideal) (argX m c) (argIds m c) (argGamma m c) (argBeta m c) (argScale m c)
      (argW m c) (argB m c) = result m c := by
  funext i
  obtain ⟨b, s, e, rfl⟩ : ∃ b s e, i = ix3 b s e := ⟨i 0, i 1, i 2, by
    funext a; match a with | ⟨0, _⟩ => rfl | ⟨1, _⟩ => rfl | ⟨2, _⟩ => rfl⟩
  obtain ⟨j, hj⟩ := hid (ix2 b s)
  choose γ hγ using hγ
  choose β hβ using hβ
  obtain ⟨σ, hσ⟩ := hσ (ix1 j)
  refine (reference_apply (argX m c) (argIds m c) (argGamma m c) (argBeta m c) (argScale m c) (argW m c)
    (argB m c) b s j hj e).trans ?_
  rw [result_apply, hj]
  have h8 : j.val < 8 := by omega
  refine Eq.trans ?_ (rowOut_eq _ ⟨j.val, h8⟩ _ _ (fun d => argW m c (ix2 e d)) _ e (fun d => γ (ix2 j d))
    (fun d => β (ix2 j d)) σ (fun d => ?_) (fun d => ?_)).symm
  · simp only [hγ, hβ, hσ]
  · refine (scales_apply m c ⟨j.val, h8⟩ j.isLt d).trans ?_
    exact congrArg₂ (· * ·) (hγ (ix2 j d)) hσ
  · refine (shifts_apply m c ⟨j.val, h8⟩ j.isLt d).trans ?_
    exact congrArg₂ (· * ·) (hβ (ix2 j d)) hσ

end Cert.Film

end
-- ==== Proof.lean ====
/-
  The proof of the claim. The frames are the generated ones; the reference's also says that no counter is left, since it
  has none. The value claim puts the kernel's run, the reference's run and the equation between their results together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged and every counter ends at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- From memories with the same arguments, under the precondition, the kernel and the reference end with the same result. -/
theorem same_result : Cert.algebraic_KernelIdeal_ReferenceIdeal_pre_params_finite
    (hKernelIdeal := Cert.KernelIdeal.Gen.facts) (hReferenceIdeal := Cert.ReferenceIdeal.Gen.facts)
    (hPre_params_finite := Cert.Film.pre_facts) := by
  intro m g m' g' hpre hagree
  haveI := Cert.Film.pre_facts
  refine ⟨Cert.Film.result m, Cert.Film.kernel_run m g, ?_⟩
  refine (θ_run Cert.ReferenceIdeal.defs _ _).mono (fun r h c => ⟨?_, (h c).2⟩) (Cert.ReferenceIdeal.Value.run m' g')
  obtain ⟨a0, a1, a2, a3, a4, a5, a6⟩ := hagree c
  obtain ⟨h1, h2, h3, h4⟩ := hpre c
  rw [(h c).1, Cert.ReferenceIdeal.Read.val_main_v53_eq m' c, a0, a1, a2, a3, a4, a5, a6]
  exact Cert.Film.result_eq m c (Cert.Film.ids_of_pre _ _ _ _ _ _ _ h1) (Cert.Film.gamma_of_pre _ _ _ _ _ _ _ h2)
    (Cert.Film.beta_of_pre _ _ _ _ _ _ _ h3) (Cert.Film.scale_of_pre _ _ _ _ _ _ _ h4)

/-- The whole claim: the five frames, the ideal program being the kernel's, and the two results being equal. -/
theorem claim : Cert.Claim :=
  ⟨Cert.Kernel.Gen.facts, Cert.KernelIdeal.Gen.facts, Cert.ReferenceIdeal.Gen.facts, Cert.Film.pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    same_result⟩

end Cert.Proof

end
